-- ==== Defs.lean ====
def Pre_Kernel [hPre_idx_in_table : Cert.Pre_idx_in_table.Facts] (m : (ℓ : Loc Cert.Kernel.nD Cert.Kernel.τ Cert.Kernel.sig) → Buf (Elt Bits) ℓ) : Prop :=
  ∀ c : Dev Cert.Kernel.nD,
    (Cert.Pre_idx_in_table.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_table : Cert.Pre_idx_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_idx_in_table : Cert.Pre_idx_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_idx_in_table : Cert.Pre_idx_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_table : Cert.Pre_idx_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_idx_in_table : Cert.Pre_idx_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_table : Cert.Pre_idx_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_idx_in_table : Cert.Pre_idx_in_table.Facts),
    quiescent_Kernel (hKernel := hKernel) (hPre_idx_in_table := hPre_idx_in_table)
    ∧ quiescent_KernelIdeal (hKernelIdeal := hKernelIdeal) (hPre_idx_in_table := hPre_idx_in_table)
    ∧ quiescent_ReferenceIdeal (hReferenceIdeal := hReferenceIdeal) (hPre_idx_in_table := hPre_idx_in_table)
    ∧ preserves_Kernel_KernelIdeal
    ∧ algebraic_KernelIdeal_ReferenceIdeal (hKernelIdeal := hKernelIdeal) (hReferenceIdeal := hReferenceIdeal) (hPre_idx_in_table := hPre_idx_in_table)
-- ==== Pre_idx_in_table.lean ====
abbrev S16384x200 : Shape := ⟨2, ![16384, 200]⟩
abbrev S120000 : Shape := ⟨1, ![120000]⟩
abbrev S_ : Shape := ⟨0, ![]⟩

class Facts : Prop where
  bcast_S_S16384x200 : S_.BroadcastsInDim S16384x200 (![] : Fin 0 → Fin S16384x200.rank)
  reducesTo_S16384x200_S_d0_1 : S16384x200.ReducesTo [0, 1] S_
  h_S_ : 0 < S_.numel

variable [Facts]

def fn {F : FTy → Type} [FloatOps F] (main_arg0 : IVec S16384x200 32) (main_arg1 : IVec S120000 32) : IVec S_ 1 :=
  let main_c : IVec S_ 32 := constantI S_ 32 0#32
  let main_v0 : IVec S16384x200 32 := broadcastInDim S16384x200 ![] bcast_S_S16384x200 main_c
  let main_v1 : IVec S16384x200 1 := cmpi .sge main_arg0 main_v0
  let main_c_0 : IVec S_ 32 := constantI S_ 32 120000#32
  let main_v2 : IVec S16384x200 32 := broadcastInDim S16384x200 ![] bcast_S_S16384x200 main_c_0
  let main_v3 : IVec S16384x200 1 := cmpi .slt main_arg0 main_v2
  let main_v4 : IVec S16384x200 1 := andi main_v1 main_v3
  let main_c_1 : IVec S_ 1 := constantI S_ 1 1#1
  let main_v5 : IVec S_ 1 := (fun x v => Host.reduce IntOp.andi x v reducesTo_S16384x200_S_d0_1 h_S_) main_v4 main_c_1
  main_v5
-- ==== Kernel.lean ====
abbrev S16384x200 : Shape := ⟨2, ![16384, 200]⟩
abbrev S120000 : Shape := ⟨1, ![120000]⟩
abbrev S3276800 : Shape := ⟨1, ![3276800]⟩
abbrev S4096 : Shape := ⟨1, ![4096]⟩
abbrev S_ : Shape := ⟨0, ![]⟩
abbrev S16 : Shape := ⟨1, ![16]⟩

abbrev nBuf : Table → Nat
  | .hbm => 5
  | .local .scVector .vmem => 3
  | _ => 0

abbrev bufTy : (tb : Table) → Fin (nBuf tb) → BufTy
  | .hbm, ⟨0, _⟩ => ⟨S16384x200, .i32⟩
  | .hbm, ⟨1, _⟩ => ⟨S120000, .i32⟩
  | .hbm, ⟨2, _⟩ => ⟨S3276800, .i32⟩
  | .hbm, ⟨3, _⟩ => ⟨S3276800, .i32⟩
  | .hbm, ⟨4, _⟩ => ⟨S16384x200, .i32⟩
  | .local .scVector .vmem, ⟨0, _⟩ => ⟨S120000, .i32⟩
  | .local .scVector .vmem, ⟨1, _⟩ => ⟨S4096, .i32⟩
  | .local .scVector .vmem, ⟨2, _⟩ => ⟨S4096, .i32⟩
  | _, _ => ⟨S16384x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c25_i32 : BitVec 32 := 25#32
  let v3 : BitVec 32 := Scalar.addi c0_i32_0 c25_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v2 : BitVec 32 := Scalar.muli v1 c102400_i32
  let c0_i32_0 : BitVec 32 := 0#32
  let c1_i32 : BitVec 32 := 1#32
  let arg8 : BitVec 32 := Scf.iv c0_i32_0 c1_i32 k0_t1
  let c4096_i32 : BitVec 32 := 4096#32
  let v4 : BitVec 32 := Scalar.muli arg8 c4096_i32
  let v5 : BitVec 32 := Scalar.addi v2 v4
  ![v5.toNat]
@[reducible] def k0_t2_loop : Scf.Loop 32 :=
  let c0_i32_3 : BitVec 32 := 0#32
  let c256_i32 : BitVec 32 := 256#32
  let v6 : BitVec 32 := Scalar.addi c0_i32_3 c256_i32
  let c1_i32_4 : BitVec 32 := 1#32
  ⟨c0_i32_3, v6, c1_i32_4⟩
def k0_off2 (k0_t2 : Fin k0_t2_loop.trips) : Fin 1 → Nat :=
  let c0_i32_3 : BitVec 32 := 0#32
  let c1_i32_4 : BitVec 32 := 1#32
  let arg9 : BitVec 32 := Scf.iv c0_i32_3 c1_i32_4 k0_t2
  let c16_i32 : BitVec 32 := 16#32
  let v7 : BitVec 32 := Scalar.muli arg9 c16_i32
  let v8 : Index := Scalar.indexCast v7
  ![v8.toNat]

def k0_chk1 (v9 : IVec S16 32) : Prop :=
  (∀ a x, ((![v9] : Fin 1 → IVec S16 32) a x).toNat < S120000.size a)
theorem k0_idx1_inb : ∀ (v9 : IVec S16 32) (k0_hw1 : k0_chk1 v9), ∀ a x, ((![v9] : Fin 1 → IVec S16 32) a x).toNat < S120000.size a := fun v9 k0_hw1 => k0_hw1
def k0_off3 (k0_t2 : Fin k0_t2_loop.trips) : Fin 1 → Nat :=
  let c0_i32_3 : BitVec 32 := 0#32
  let c1_i32_4 : BitVec 32 := 1#32
  let arg9 : BitVec 32 := Scf.iv c0_i32_3 c1_i32_4 k0_t2
  let c16_i32_6 : BitVec 32 := 16#32
  let v11 : BitVec 32 := Scalar.muli arg9 c16_i32_6
  let v12 : Index := Scalar.indexCast v11
  ![v12.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x200 : Shape := ⟨2, ![16384, 200]⟩
abbrev S120000 : Shape := ⟨1, ![120000]⟩
abbrev S_ : Shape := ⟨0, ![]⟩
abbrev S16384x200x1 : Shape := ⟨3, ![16384, 200, 1]⟩
abbrev S1 : Shape := ⟨1, ![1]⟩
abbrev S1x1x1 : Shape := ⟨3, ![1, 1, 1]⟩

abbrev nBuf : Space → Nat
  | .hbm => 24
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S120000, .i32⟩
  | .hbm, ⟨2, _⟩ => ⟨S_, .i32⟩
  | .hbm, ⟨3, _⟩ => ⟨S16384x200, .i32⟩
  | .hbm, ⟨4, _⟩ => ⟨S16384x200, .i1⟩
  | .hbm, ⟨5, _⟩ => ⟨S_, .i32⟩
  | .hbm, ⟨6, _⟩ => ⟨S16384x200, .i32⟩
  | .hbm, ⟨7, _⟩ => ⟨S16384x200, .i32⟩
  | .hbm, ⟨8, _⟩ => ⟨S16384x200, .i32⟩
  | .hbm, ⟨9, _⟩ => ⟨S16384x200x1, .i32⟩
  | .hbm, ⟨10, _⟩ => ⟨S1, .i32⟩
  | .hbm, ⟨11, _⟩ => ⟨S_, .i32⟩
  | .hbm, ⟨12, _⟩ => ⟨S16384x200x1, .i32⟩
  | .hbm, ⟨13, _⟩ => ⟨S16384x200x1, .i1⟩
  | .hbm, ⟨14, _⟩ => ⟨S1x1x1, .i32⟩
  | .hbm, ⟨15, _⟩ => ⟨S16384x200x1, .i32⟩
  | .hbm, ⟨16, _⟩ => ⟨S16384x200x1, .i1⟩
  | .hbm, ⟨17, _⟩ => ⟨S16384x200x1, .i1⟩
  | .hbm, ⟨18, _⟩ => ⟨S_, .i1⟩
  | .hbm, ⟨19, _⟩ => ⟨S16384x200, .i1⟩
  | .hbm, ⟨20, _⟩ => ⟨S16384x200, .i32⟩
  | .hbm, ⟨21, _⟩ => ⟨S_, .i32⟩
  | .hbm, ⟨22, _⟩ => ⟨S16384x200, .i32⟩
  | .hbm, ⟨23, _⟩ => ⟨S16384x200, .i32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_c_4 : Ref sig .tc := ⟨.hbm, 21, rfl⟩
abbrev main_call0_v14 : Ref sig .tc := ⟨.hbm, 22, rfl⟩
abbrev main_v0 : Ref sig .tc := ⟨.hbm, 23, rfl⟩

abbrev nD : Nat := 1
abbrev τ : Topo := Topo.v7x

variable {F : FTy → Type} [FloatOps F]
-- ==== Proof.Lookup.lean ====
/-
  The lookup the kernel and the reference both compute, as plain functions of words: the table's slot a word names, and the
  word the table holds there. Shared by every module that speaks of values.
-/
module

public import Idealize.ShloMosaic.PureOps

@[expose] public section

noncomputable section

namespace Cert.Proof.Lookup

open Idealize.ShloMosaic

/-- The table's indices: one axis of 120000 slots. -/
abbrev Slots : Shape := ⟨1, ![120000]⟩

/-- The slot a word names. The remainder makes it a slot for every word; a word below 120000 names the slot of its own number
    (`slot_val`). -/
def slot (w : BitVec 32) : Slots.Idx :=
  fun a => match a with
    | 0 => ⟨w.toNat % 120000, Nat.mod_lt _ (by decide)⟩

/-- What the table `t` holds at the slot the word `w` names. -/
def look (t : Slots.Idx → BitVec 32) (w : BitVec 32) : BitVec 32 := t (slot w)

/-- A word below 120000 names the slot of its own number. -/
theorem slot_val {w : BitVec 32} (h : w.toNat < 120000) (a : Fin 1) : (slot w a).val = w.toNat := by
  match a with
  | 0 => exact Nat.mod_eq_of_lt h

/-- The slot at a word's number, however it was built, is the slot the word names. -/
theorem eq_slot {w : BitVec 32} (h : w.toNat < 120000) {x : Slots.Idx} (hx : ∀ a, (x a).val = w.toNat) : x = slot w :=
  funext fun a => Fin.ext ((hx a).trans (slot_val h a).symm)

end Cert.Proof.Lookup

end
-- ==== Proof.IdealTile.lean ====
/-
  One vector subcore's task of the program `KernelIdeal`, with the values it computes.

  The task on tile `s` of SparseCore `c` fetches the whole table into its own memory, then walks 25 chunks of 4096 words: it
  fetches the chunk of indices, replaces sixteen indices at a time by the table's words at them (an indexed load out of its own
  memory), and writes the chunk of results out. The task owns its 25 chunks of the result outright and holds a read share of
  the table and of the indices. `tile_body` says that it ends with each of its chunks holding, at every position, the table's
  word at the index of that position; the two loops' invariants carry exactly that statement, chunk by chunk and sixteen words
  by sixteen words.
-/
module

public import proofs.«01_k».proof.Defs
public import proofs.«01_k».proof.Proof.Lookup
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ShareLeaves
public import Idealize.ShloMosaic.Lib.Tactic
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen
open Cert.Proof.Lookup

open Idealize.ShloMosaic
open Idealize.ShloMosaic.SparseCore (S V T)
open Idealize.ShloMosaic.SparseCore.Cfg (HIx Pay ownBufs ownSems0 ownCells ownRefs mem_ownCells mem_ownRefs)
open Idealize.ShloMosaic.ShareLeaves (leaf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's four semaphores are four and no kernel's, no scratch is shared among a SparseCore's tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch's handshakes and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- The arguments (indices, table), the flattened indices, the flat result and the result, as locations of device `d`. -/
abbrev aLoc (d : Dev nD) : Loc nD τ sig := (SparseCore.T d).loc main_arg0
abbrev tLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-! What a task holds: the flat indices, the table and the flat result in HBM; its own memory for the table, a chunk of indices and a
chunk of results. -/

abbrev iV : Memref sig .scVector .hbm S3276800 .i32 := Memref.whole main_v0_scv
abbrev tV : Memref sig .scVector .hbm S120000 .i32 := Memref.whole main_arg1_scv
abbrev oV : Memref sig .scVector .hbm S3276800 .i32 := Memref.whole main_v1_scv
abbrev sT : Memref sig .scVector .vmem S120000 .i32 := Memref.whole cc0_scratch0
abbrev sI : Memref sig .scVector .vmem S4096 .i32 := Memref.whole cc0_scratch1
abbrev sO : Memref sig .scVector .vmem S4096 .i32 := Memref.whole cc0_scratch2

/-- The outer loop takes 25 trips. -/
theorem trips1 : k0_t1_loop.trips = 25 := by decide

/-- The inner loop takes 256 trips. -/
theorem trips2 : k0_t2_loop.trips = 256 := by decide

/-! ## The task's place and its chunks -/

abbrev cV (L : grid0.Coords) : Fin τ.nSC := (L 0).castLE hcore0
abbrev jV (L : grid0.Coords) : Fin τ.nSub := (L 1).castLE hsub0
/-- The thread that runs the task at coordinates `L`. -/
abbrev thr (d : Dev nD) (L : grid0.Coords) : Thread nD τ := V d (cV L) (jV L)

/-- Chunk `k` of the task at `L`, as the kernel slices it. -/
abbrev rK (L : grid0.Coords) (k : Fin k0_t1_loop.trips) : Rect S3276800 :=
  Rect.unit (s := S3276800) (k0_off1 L k) S4096.size (k0_off1_inb L k)
abbrev iK (L : grid0.Coords) (k : Fin k0_t1_loop.trips) : Memref sig .scVector .hbm S4096 .i32 := (iV).slice (rK L k) (fun _ => rfl)
abbrev oK (L : grid0.Coords) (k : Fin k0_t1_loop.trips) : Memref sig .scVector .hbm S4096 .i32 := (oV).slice (rK L k) (fun _ => rfl)

/-- The positions of chunk `k` of the task at `L`: those whose number divided by 4096 is the chunk's. -/
def chunk (L : grid0.Coords) (k : Fin k0_t1_loop.trips) : Finset S3276800.Idx :=
  Finset.univ.filter fun j => (j 0).val / 4096 = 50 * (L 1).val + 25 * (L 0).val + k.val

/-- A chunk's positions are the 4096 from its offset on. -/
theorem mem_chunk {L : grid0.Coords} {k : Fin k0_t1_loop.trips} {j : S3276800.Idx} :
    j ∈ chunk L k ↔ (j 0).val / 4096 = 50 * (L 1).val + 25 * (L 0).val + k.val := by simp [chunk]

/-- The kernel's slice of the result covers exactly the chunk's positions. -/
theorem set_oK (L : grid0.Coords) (k : Fin k0_t1_loop.trips) : (oK L k).view.set = chunk L k := by
  have e : (oK L k).view.set = (rK L k).set := by
    show ((View.whole (main_v1_scv : Ref sig .scVector)).slice (rK L k)).set = _
    rw [View.set_slice]; exact Finset.map_refl
  rw [e]
  ext j
  rw [Rect.mem_set_unit, mem_chunk, k0_off1_eq]
  constructor
  · intro h
    obtain ⟨h1, h2⟩ := h 0
    have h1' : 204800 * (L 1).val + 102400 * (L 0).val + 4096 * k.val ≤ (j 0).val := h1
    have h2' : (j 0).val < 204800 * (L 1).val + 102400 * (L 0).val + 4096 * k.val + 4096 := h2
    omega
  · intro h a
    obtain rfl : a = 0 := Subsingleton.elim _ _
    show 204800 * (L 1).val + 102400 * (L 0).val + 4096 * k.val ≤ (j 0).val
      ∧ (j 0).val < 204800 * (L 1).val + 102400 * (L 0).val + 4096 * k.val + 4096
    omega

/-! ## What the task computes -/

/-- The flat result: at every position, the table's word at the index of that position. -/
def G (d : Dev nD) (tab : Buf (Elt F) (tLoc d)) (idx : Buf (Elt F) (iLoc d)) : Buf (Elt F) (oLoc d) := fun j => look tab (idx j)

/-- A task's memory for sixteen words after `n` trips: the first `16 n` positions hold the table's words. -/
def Filled (tab : S120000.Idx → BitVec 32) (ix g : S4096.Idx → BitVec 32) (n : ℕ) : Prop :=
  ∀ j : S4096.Idx, (j 0).val < 16 * n → g j = look tab (ix j)

abbrev rI (k : Fin k0_t2_loop.trips) : Rect S4096 := Rect.unit (s := S4096) (k0_off2 k) S16.size (k0_off2_inb k)
abbrev rO (k : Fin k0_t2_loop.trips) : Rect S4096 := Rect.unit (s := S4096) (k0_off3 k) S16.size (k0_off3_inb k)

/-- Trip `k` reads and writes the same sixteen positions. -/
theorem rI_idx (k : Fin k0_t2_loop.trips) (x : S16.Idx) : (rI k).toLoadRect.idx x = (rO k).emb x := by
  funext a; apply Fin.ext
  obtain rfl : a = 0 := Subsingleton.elim _ _
  show k0_off2 k 0 + 1 * (x 0).val = k0_off3 k 0 + 1 * (x 0).val
  rw [k0_off2_eq, k0_off3_eq]

/-- Position `x` of trip `k`'s sixteen is position `16 k + x` of the chunk. -/
theorem rO_emb (k : Fin k0_t2_loop.trips) (x : S16.Idx) : ((rO k).emb x 0).val = 16 * k.val + (x 0).val := by
  show k0_off3 k 0 + 1 * (x 0).val = _
  rw [k0_off3_eq, Nat.one_mul]; rfl

variable [FloatOps F]

/-- The indices read at trip `k`, each below 120000: the kernel's check passes. -/
theorem chk_of_lt (k : Fin k0_t2_loop.trips) (ix : S4096.Idx → Elt F .i32) (hix : ∀ j, (ix j).toNat < 120000) :
    k0_chk1 ((sI).view.readAt (Elt F) (rI k).toLoadRect ix) := by
  intro a x
  obtain rfl : a = 0 := Subsingleton.elim _ _
  exact hix ((rI k).toLoadRect.idx x)

/-- One trip's store: sixteen more positions hold the table's words. -/
theorem filled_step (k : Fin k0_t2_loop.trips) (tab : S120000.Idx → Elt F .i32) (ix g : S4096.Idx → Elt F .i32) (hix : ∀ j, (ix j).toNat < 120000)
    (w : S16.Idx → Elt F .i32) (hw : ∀ x, w x = look tab (ix ((rO k).emb x))) (hg : Filled tab ix g k.val) :
    Filled tab ix (((sO).access (rO k)).write (Elt F) g w Finset.univ) (k.val + 1) := by
  intro j hj
  by_cases h : 16 * k.val ≤ (j 0).val
  · have hx : ∃ x : S16.Idx, (rO k).emb x = j := by
      refine ⟨fun a => match a with | 0 => ⟨(j 0).val - 16 * k.val, by show _ < 16; omega⟩, ?_⟩
      funext a; apply Fin.ext
      obtain rfl : a = 0 := Subsingleton.elim _ _
      rw [rO_emb]
      show 16 * k.val + ((j 0).val - 16 * k.val) = _
      omega
    obtain ⟨x, rfl⟩ := hx
    refine Eq.trans ?_ (hw x)
    exact (View.write_emb_of_mem (v := (sO).access (rO k)) g w (Finset.mem_univ x)).trans (cast_eq _ _)
  · refine (View.write_of_not_mem (v := (sO).access (rO k)) g w Finset.univ ?_).trans (hg j (by omega))
    intro hm
    obtain ⟨x, -, hx⟩ := Finset.mem_map.mp hm
    have hx' : (rO k).emb x = j := hx
    rw [← hx', rO_emb] at h
    omega

/-- The chunk of indices the task fetched: position `x` of it is the index array's at that position of the chunk. -/
theorem fetched (d : Dev nD) (L : grid0.Coords) (k : Fin k0_t1_loop.trips) (idx : Buf (Elt F) (iLoc d)) (x : S4096.Idx) :
    (iK L k).view.read (Elt F) idx x = idx ((rK L k).emb x) := (View.read_apply _ _).trans (cast_eq _ _)

/-- Writing out a chunk every position of which is filled leaves the result's chunk at the table's words. -/
theorem written (d : Dev nD) (L : grid0.Coords) (k : Fin k0_t1_loop.trips) (tab : Buf (Elt F) (tLoc d)) (idx : Buf (Elt F) (iLoc d))
    (f : Buf (Elt F) (oLoc d)) (g : S4096.Idx → Elt F .i32) (hg : Filled tab (fun x => idx ((rK L k).emb x)) g 256) :
    ∀ j ∈ chunk L k, (oK L k).view.write (Elt F) f g Finset.univ j = G d tab idx j := by
  intro j hj
  rw [← set_oK] at hj
  obtain ⟨x, -, rfl⟩ := Finset.mem_map.mp hj
  refine (View.write_emb_of_mem (v := (oK L k).view) f g (Finset.mem_univ x)).trans ((cast_eq _ _).trans ?_)
  exact hg x (by have := (x 0).isLt; exact this)

end Cert.Proof.KernelIdeal

end
-- ==== Proof.IdealBody.lean ====
/-
  The program `KernelIdeal`'s task, run: `trip2`, one trip of the inner loop (sixteen words looked up), `trip1`, one trip of the
  outer loop (one chunk fetched, looked up and written out), and `tile_body`, the whole task at a symbolic SparseCore and tile.
-/
module

public import proofs.«01_k».proof.Proof.IdealTile

@[expose] public section

noncomputable section

namespace Cert.Proof.KernelIdeal

open Cert.KernelIdeal Cert.KernelIdeal.Gen
open Cert.Proof.Lookup

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-! ## The buffers as the task addresses them -/

omit [FloatOps F] in
/-- Chunk `k` of the result, as the kernel's slice addresses it and as the set of its positions. -/
theorem pts_oK (k : Fin k0_t1_loop.trips) (f : Buf (Elt F) (oLoc d)) :
    ((oK L k).view.loc (thr d L) ↦[(oK L k).view.set]{fullShare} f : sProp 𝕄) = oLoc d ↦[chunk L k]{fullShare} f := by
  rw [set_oK]

omit [FloatOps F] in
/-- The flat indices, as the task addresses them, are the host's buffer. -/
theorem pts_iV (q : PosShare TreeShare) (f : Buf (Elt F) (iLoc d)) : ((iV).view.loc (thr d L) ↦{q} f : sProp 𝕄) = iLoc d ↦{q} f := rfl

omit [FloatOps F] in
/-- The table, as the task addresses it, is the host's buffer. -/
theorem pts_tV (q : PosShare TreeShare) (f : Buf (Elt F) (tLoc d)) : ((tV).view.loc (thr d L) ↦{q} f : sProp 𝕄) = tLoc d ↦{q} f := rfl

omit [FloatOps F] in
/-- The tile's copy of the table, as the task addresses it. -/
theorem pts_sT (f : Buf (Elt F) ((thr d L).loc cc0_scratch0)) :
    ((sT).view.loc (thr d L) ↦{fullShare} f : sProp 𝕄) = (thr d L).loc cc0_scratch0 ↦{fullShare} f := rfl

omit [FloatOps F] in
/-- The same, as the indexed load reads it. -/
theorem pts_sT_access (f : Buf (Elt F) ((thr d L).loc cc0_scratch0)) :
    (((sT).access (.whole S120000)).loc (thr d L) ↦{fullShare} f : sProp 𝕄) = (sT).view.loc (thr d L) ↦{fullShare} f := rfl

omit [FloatOps F] in
/-- The tile's chunk of indices, as the task addresses it. -/
theorem pts_sI (f : Buf (Elt F) ((thr d L).loc cc0_scratch1)) :
    ((sI).view.loc (thr d L) ↦{fullShare} f : sProp 𝕄) = (thr d L).loc cc0_scratch1 ↦{fullShare} f := rfl

omit [FloatOps F] in
/-- The tile's chunk of results, as the task addresses it. -/
theorem pts_sO (f : Buf (Elt F) ((thr d L).loc cc0_scratch2)) :
    ((sO).view.loc (thr d L) ↦{fullShare} f : sProp 𝕄) = (thr d L).loc cc0_scratch2 ↦{fullShare} f := rfl

omit [FloatOps F] in
/-- The same, as trip `k`'s store writes it. -/
theorem pts_sO_access (k : Fin k0_t2_loop.trips) (f : Buf (Elt F) ((thr d L).loc cc0_scratch2)) :
    (((sO).access (rO k)).loc (thr d L) ↦{fullShare} f : sProp 𝕄) = (sO).view.loc (thr d L) ↦{fullShare} f := rfl

/-! ## The inner loop: sixteen words a trip -/

/-- The inner loop's invariant after `n` trips: the table and the chunk's indices as fetched, the chunk's results filled in its
    first `16 n` positions. -/
def inv2 (tab : S120000.Idx → Elt F .i32) (ix : S4096.Idx → Elt F .i32) (n : ℕ) (_ : Unit) : sProp 𝕄 :=
  iprop(((sT).view.loc (thr d L) ↦{fullShare} tab) ∗ ((sI).view.loc (thr d L) ↦{fullShare} ix)
    ∗ ∃ g, ⌜Filled tab ix g n⌝ ∗ ((sO).view.loc (thr d L) ↦{fullShare} g))

/-- What the indexed load returns at trip `k`: the table's words at the indices the trip read. -/
theorem loaded (k : Fin k0_t2_loop.trips) (tab : S120000.Idx → Elt F .i32) (ix : S4096.Idx → Elt F .i32) (hix : ∀ j, (ix j).toNat < 120000)
    (h : ∀ a x, ((![(sI).view.readAt (Elt F) (rI k).toLoadRect ix] : Fin 1 → IVec S16 32) a x).toNat < S120000.size a) (x : S16.Idx) :
    loadIdx (((sT).access (.whole S120000)).read (Elt F) tab) ![(sI).view.readAt (Elt F) (rI k).toLoadRect ix] h x
      = look tab (ix ((rO k).emb x)) := by
  have hr : ((sT).access (.whole S120000)).read (Elt F) tab = tab := by
    funext y
    refine (View.read_apply _ _).trans ((cast_eq _ _).trans (congrArg tab ?_))
    funext a; apply Fin.ext
    show 0 + 1 * (y a).val = (y a).val
    omega
  rw [hr]
  show tab _ = tab (slot _)
  refine congrArg tab (eq_slot (hix _) fun a => ?_)
  obtain rfl : a = 0 := Subsingleton.elim _ _
  show (ix ((rI k).toLoadRect.idx x)).toNat = _
  rw [rI_idx]

/-- One trip of the inner loop. -/
theorem trip2 (tab : S120000.Idx → Elt F .i32) (ix : S4096.Idx → Elt F .i32) (hix : ∀ j, (ix j).toNat < 120000) (k : Fin k0_t2_loop.trips) (u : Unit) :
    inv2 (F := F) d L tab ix k.val u
      ⊢ wp frame (wpE (defs₀ (F := F)) 𝒱₀ (thr d L) none) Set.univ
          (k0_t2_body L iV (Memref.isWhole_whole _) tV (Memref.isWhole_whole _) oV (Memref.isWhole_whole _)
            sT (Memref.isWhole_whole _) sI (Memref.isWhole_whole _) sO (Memref.isWhole_whole _) cc0_scoped0 cc0_scoped1 cc0_scoped2 k u)
          (inv2 (F := F) d L tab ix (k.val + 1)) := by
  unfold k0_t2_body
  simp only [Prog.lift, Prog.bind_op, Prog.bind_ret, Prog.pure_eq_ret]
  unfold inv2
  iintro ⟨HT, HI, %g, %hg, HO⟩
  iapply (wp_load 𝒱₀ (thr d L) none Set.univ (m := sI) (S := Finset.univ) (Finset.subset_univ _)) $$ HI; iintro HI
  rw [wp_assume_of _ _ _ _ (chk_of_lt k ix hix)]
  ihave HT' := (Entails.of_eq (pts_sT_access (F := F) d L _).symm) $$ HT
  iapply (SparseCore.wp_vectorLoadIdx 𝒱₀ (thr d L) none Set.univ (base := sT) (S := Finset.univ) (q := fullShare) (Finset.subset_univ _)) $$ HT'; iintro HT'
  iapply (wp_load 𝒱₀ (thr d L) none Set.univ (m := sO) (S := Finset.univ) (Finset.subset_univ _)) $$ HO; iintro HO
  ihave HO' := (Entails.of_eq (pts_sO_access (F := F) d L k _).symm) $$ HO
  iapply (wp_store 𝒱₀ (thr d L) none Set.univ (m := sO) (r := rO k) (Mk := Finset.univ) (S := Finset.univ) (Finset.subset_univ _)) $$ HO'; iintro HO'
  rw [wp_ret]; imodintro
  isplitl [HT']; · iapply (Entails.of_eq (pts_sT_access (F := F) d L _)); iexact HT'
  isplitl [HI]; · iexact HI
  iexists _; isplitr
  swap
  · iapply (Entails.of_eq (pts_sO_access (F := F) d L k _)); iexact HO'
  ipureintro
  exact filled_step k tab ix g hix _ (loaded k tab ix hix _) hg

/-! ## The outer loop: one chunk a trip -/

/-- The contents of chunk `k` after `n` trips: the table's words if the chunk is done, what was there before if not. -/
def chunkAt (tab : Buf (Elt F) (tLoc d)) (idx : Buf (Elt F) (iLoc d)) (fo : Buf (Elt F) (oLoc d)) (n : ℕ) (k : Fin k0_t1_loop.trips) : Buf (Elt F) (oLoc d) :=
  if k.val < n then G d tab idx else fo

/-- The task's chunks after `n` trips. -/
def chunks (tab : Buf (Elt F) (tLoc d)) (idx : Buf (Elt F) (iLoc d)) (fo : Buf (Elt F) (oLoc d)) (n : ℕ) : sProp 𝕄 :=
  bigSep Finset.univ fun k : Fin k0_t1_loop.trips => oLoc d ↦[chunk L k]{fullShare} chunkAt (F := F) d tab idx fo n k

/-- The chunks before the first trip: all as they were. -/
theorem chunks_zero (tab : Buf (Elt F) (tLoc d)) (idx : Buf (Elt F) (iLoc d)) (fo : Buf (Elt F) (oLoc d)) :
    (chunks d L tab idx fo 0 : sProp 𝕄) = bigSep Finset.univ fun k : Fin k0_t1_loop.trips => oLoc d ↦[chunk L k]{fullShare} fo :=
  bigSep_congr fun k _ => by rw [chunkAt, if_neg (Nat.not_lt_zero _)]

/-- The chunks after the last trip: all at the table's words. -/
theorem chunks_all (tab : Buf (Elt F) (tLoc d)) (idx : Buf (Elt F) (iLoc d)) (fo : Buf (Elt F) (oLoc d)) :
    (chunks d L tab idx fo k0_t1_loop.trips : sProp 𝕄) = bigSep Finset.univ fun k : Fin k0_t1_loop.trips => oLoc d ↦[chunk L k]{fullShare} G d tab idx :=
  bigSep_congr fun k _ => by rw [chunkAt, if_pos k.isLt]

/-- Before trip `k` its chunk is still as it was; the other chunks aside. -/
theorem chunks_take (tab : Buf (Elt F) (tLoc d)) (idx : Buf (Elt F) (iLoc d)) (fo : Buf (Elt F) (oLoc d)) (k : Fin k0_t1_loop.trips) :
    (chunks d L tab idx fo k.val : sProp 𝕄)
      = iprop((oLoc d ↦[chunk L k]{fullShare} fo)
          ∗ bigSep (Finset.univ.erase k) fun k' : Fin k0_t1_loop.trips => oLoc d ↦[chunk L k']{fullShare} chunkAt (F := F) d tab idx fo k.val k') := by
  unfold chunks
  rw [SparseCore.bigSep_erase' (Finset.mem_univ k), show chunkAt (F := F) d tab idx fo k.val k = fo from if_neg (lt_irrefl _)]

/-- After trip `k` its chunk holds the table's words, the other chunks as before. -/
theorem chunks_put (tab : Buf (Elt F) (tLoc d)) (idx : Buf (Elt F) (iLoc d)) (fo : Buf (Elt F) (oLoc d)) (k : Fin k0_t1_loop.trips) :
    (chunks d L tab idx fo (k.val + 1) : sProp 𝕄)
      = iprop((oLoc d ↦[chunk L k]{fullShare} G d tab idx)
          ∗ bigSep (Finset.univ.erase k) fun k' : Fin k0_t1_loop.trips => oLoc d ↦[chunk L k']{fullShare} chunkAt (F := F) d tab idx fo k.val k') := by
  unfold chunks
  rw [SparseCore.bigSep_erase' (Finset.mem_univ k), show chunkAt (F := F) d tab idx fo (k.val + 1) k = G d tab idx from if_pos (Nat.lt_succ_self _)]
  refine congrArg (fun X : sProp 𝕄 => iprop((oLoc d ↦[chunk L k]{fullShare} G d tab idx) ∗ X)) (bigSep_congr fun k' hk' => ?_)
  have hne : k'.val ≠ k.val := fun e => (Finset.mem_erase.mp hk').1 (Fin.ext e)
  have e : chunkAt (F := F) d tab idx fo (k.val + 1) k' = chunkAt (F := F) d tab idx fo k.val k' := by
    unfold chunkAt
    by_cases h : k'.val < k.val
    · rw [if_pos h, if_pos (Nat.lt_succ_of_lt h)]
    · rw [if_neg h, if_neg (by omega)]
  rw [e]

abbrev cellA : GSem nD τ sig := (thr d L, .dma cc0_scoped0.sem)
abbrev cellB : GSem nD τ sig := (thr d L, .dma cc0_scoped1.sem)
abbrev cellC : GSem nD τ sig := (thr d L, .dma cc0_scoped2.sem)

/-- The outer loop's invariant after `n` trips: the table fetched, the share of the indices, the two chunk buffers at some
    contents, the chunks (`chunks`), the two semaphores of the loop's copies at zero, and the waits recorded. -/
def inv1 (tab : Buf (Elt F) (tLoc d)) (idx : Buf (Elt F) (iLoc d)) (fo : Buf (Elt F) (oLoc d)) (q : PosShare TreeShare)
    (O : CellTallies nD τ sig (HIx 1)) (W : Waits sig (HIx 1)) (n : ℕ) (_ : Unit) : sProp 𝕄 :=
  iprop(Transfers.MayWaits (thr d L) (none : HIx 1) O
    ∗ ((sT).view.loc (thr d L) ↦{fullShare} tab)
    ∗ ((iV).view.loc (thr d L) ↦{q} idx)
    ∗ (∃ f, (sI).view.loc (thr d L) ↦{fullShare} f)
    ∗ (∃ f, (sO).view.loc (thr d L) ↦{fullShare} f)
    ∗ chunks d L tab idx fo n
    ∗ semVal (cellB d L) 0 ∗ semVal (cellC d L) 0
    ∗ ∃ W', ⌜∀ p ∈ W', p ∈ W ∨ p.2 = none⌝ ∗ owes (thr d L) O W')

/-- What a chunk's fetch leaves in the task's index buffer: the chunk's indices, in order. -/
theorem landed (k : Fin k0_t1_loop.trips) (idx : Buf (Elt F) (iLoc d)) (fs : Buf (Elt F) ((thr d L).loc cc0_scratch1)) :
    (sI).view.write (Elt F) fs ((iK L k).view.read (Elt F) idx) Finset.univ = fun x => idx ((rK L k).emb x) :=
  (View.write_whole_univ _ _ _).trans (funext fun x => fetched d L k idx x)

/-- What a chunk's write-out leaves in the result, over the chunk: the table's words. -/
theorem written_out (k : Fin k0_t1_loop.trips) (tab : Buf (Elt F) (tLoc d)) (idx : Buf (Elt F) (iLoc d)) (fo : Buf (Elt F) (oLoc d))
    (g : S4096.Idx → Elt F .i32) (hg : Filled tab (fun x => idx ((rK L k).emb x)) g 256) :
    ∀ j ∈ (oK L k).view.set, (oK L k).view.writes (Elt F) fo [⟨Rect.whole S4096, (sO).view.read (Elt F) g⟩] j = G d tab idx j := by
  rw [← View.write_univ_eq_writes_whole, set_oK, show (sO).view.read (Elt F) g = g from View.read_whole _ _]
  exact written d L k tab idx fo g hg

set_option maxHeartbeats 4000000 in

/-- One trip of the outer loop. -/
theorem trip1 (tab : Buf (Elt F) (tLoc d)) (idx : Buf (Elt F) (iLoc d)) (fo : Buf (Elt F) (oLoc d)) (hidx : ∀ j, (idx j).toNat < 120000) (q : PosShare TreeShare)
    (O : CellTallies nD τ sig (HIx 1)) (W : Waits sig (HIx 1)) (k : Fin k0_t1_loop.trips) (u : Unit) :
    inv1 (F := F) d L tab idx fo q O W k.val u
      ⊢ wp frame (wpE (defs₀ (F := F)) 𝒱₀ (thr d L) none) Set.univ
          (k0_t1_body L iV (Memref.isWhole_whole _) tV (Memref.isWhole_whole _) oV (Memref.isWhole_whole _)
            sT (Memref.isWhole_whole _) sI (Memref.isWhole_whole _) sO (Memref.isWhole_whole _) cc0_scoped0 cc0_scoped1 cc0_scoped2 k u)
          (inv1 (F := F) d L tab idx fo q O W (k.val + 1)) := by
  unfold k0_t1_body inv1
  rw [chunks_take]
  iintro ⟨Hmw, HT, Hi, ⟨%fs, Hs⟩, ⟨%fc, Hc⟩, ⟨Ho, Hrest⟩, HB, HC, %W', %hW', HO⟩
  ihave Ho' := (Entails.of_eq (pts_oK (F := F) d L k _).symm) $$ Ho
  sl_exec (disch := exact View.amount_pos _ _ (show 0 < S4096.numel by decide))
  sl_for (inv2 (F := F) d L tab (fun x => idx ((rK L k).emb x))) $$ [HT Hs Hc]
  case region =>
    intro k' u'
    exact trip2 d L tab _ (fun j => hidx _) k' u'
  · unfold inv2
    isplitl [HT]; · iexact HT
    isplitl [Hs]
    · iapply (Entails.of_eq (congrArg (fun f => ((sI).view.loc (thr d L) ↦{fullShare} f : sProp 𝕄)) (landed d L k idx fs))); iexact Hs
    iexists fc; isplitr
    · ipureintro; intro j hj; exact absurd hj (Nat.not_lt_zero _)
    · iexact Hc
  iintro %_ HI
  unfold inv2
  icases HI with ⟨HT, Hs, %g, %hg, Hc⟩
  sl_exec (disch := exact View.amount_pos _ _ (show 0 < S4096.numel by decide))
  sl_step
  rw [chunks_put]
  isplitl [Hmw]; · iexact Hmw
  isplitl [HT]; · iexact HT
  isplitl [Hi]; · iexact Hi
  isplitl [Hs]; · iexists _; iexact Hs
  isplitl [Hc]; · iexists _; iexact Hc
  isplitl [Ho' Hrest]
  · isplitl [Ho']
    · rw [← pts_oK]
      iapply (Entails.of_eq (pointsTo_congr (written_out d L k tab idx fo g (trips2 ▸ hg)))); iexact Ho'
    · iexact Hrest
  isplitl [HB]; · iexact HB
  isplitl [HC]; · iexact HC
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

/-! ## The task -/

omit [FloatOps F] in
/-- The three semaphores of the task's copies are among the subcore's own, all at zero. -/
theorem ownSems0_V :
    (ownSems0 (thr d L) : sProp 𝕄)
      = iprop(semVal (cellA d L) 0 ∗ semVal (cellB d L) 0 ∗ semVal (cellC d L) 0
          ∗ bigSep ((((ownCells (thr d L)).erase (cellA d L)).erase (cellB d L)).erase (cellC d L)) fun g => semVal g 0) := by
  unfold SparseCore.Cfg.ownSems0
  rw [SparseCore.bigSep_erase' ((mem_ownCells (g := cellA d L)).mpr ⟨rfl, by
      show (SemLoc.dma cc0_scoped0.sem : SemLoc sig).isScoped .scVector = true; decide⟩),
    SparseCore.bigSep_erase' (Finset.mem_erase.mpr ⟨by simp [cellA, cellB]; decide, (mem_ownCells (g := cellB d L)).mpr ⟨rfl, by
      show (SemLoc.dma cc0_scoped1.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d L)).mpr ⟨rfl, by show (SemLoc.dma cc0_scoped2.sem : SemLoc sig).isScoped .scVector = true; decide⟩⟩⟩)]

omit [FloatOps F] in
/-- The table's, the indices' and the results' buffers are among the subcore's own: they are them, at some contents, and the
    rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- What the table's fetch leaves in the task's table buffer: the table. -/
theorem table_landed (tab : Buf (Elt F) (tLoc d)) (ft : Buf (Elt F) ((thr d L).loc cc0_scratch0)) :
    (sT).view.write (Elt F) ft ((tV).view.read (Elt F) tab) Finset.univ = tab :=
  (View.write_whole_univ _ _ _).trans (View.read_whole _ _)

/-- What a task holds of the table, the indices and the result: a share of each of the first two, its chunks of the third at
    the contents `f`. -/
abbrev share (q : PosShare TreeShare) (tab : Buf (Elt F) (tLoc d)) (idx : Buf (Elt F) (iLoc d)) (f : Buf (Elt F) (oLoc d)) : sProp 𝕄 :=
  iprop((tLoc d ↦{q} tab) ∗ (iLoc d ↦{q} idx) ∗ bigSep Finset.univ fun k : Fin k0_t1_loop.trips => oLoc d ↦[chunk L k]{fullShare} f)

set_option maxHeartbeats 4000000 in
/-- The whole task at coordinates `L`, for any contents of the table and any indices below 120000: its chunks of the result
    end at the table's words. -/
theorem tile_body (hF : (K (F := F)).Facts) (tab : Buf (Elt F) (tLoc d)) (idx : Buf (Elt F) (iLoc d)) (fo : Buf (Elt F) (oLoc d))
    (hidx : ∀ j, (idx j).toNat < 120000) (q : PosShare TreeShare)
    (O : CellTallies nD τ sig (HIx 1)) (W : Waits sig (HIx 1)) (hO : ∀ g, O g none = 0) :
    iprop(levAts (K (F := F)).L (K (F := F)).lev ∗ emp ∗ share d L q tab idx fo
        ∗ scopedBufs (thr d L) ∗ scopedSems0 (thr d L) ∗ owes (thr d L) O W)
      ⊢ wp frame (wpE (defs₀ (F := F)) 𝒱₀ (thr d L) none) Set.univ
          (cc0__sc_gather L iV (Memref.isWhole_whole _) tV (Memref.isWhole_whole _) oV (Memref.isWhole_whole _)
            sT (Memref.isWhole_whole _) sI (Memref.isWhole_whole _) sO (Memref.isWhole_whole _) cc0_scoped0 cc0_scoped1 cc0_scoped2)
          fun _ => iprop(share d L q tab idx (G d tab idx)
            ∗ scopedBufs (thr d L) ∗ scopedSems0 (thr d L)
            ∗ ∃ W', ⌜∀ p ∈ W', p ∈ W ∨ p.2 = none⌝ ∗ owes (thr d L) O W') := by
  simp only [cc0__sc_gather_eq_skeleton]; unfold cc0__sc_gather_skel
  rw [(K (F := F)).scopedBufs_V hF d (cV L) (jV L), SparseCore.Cfg.scopedSems0_V (Val := Elt F) d (cV L) (jV L), ownSems0_V, ownBufs_V]
  iintro ⟨#Hlv, -, ⟨Ht, Hi, Ho⟩, ⟨⟨%ft, HT⟩, ⟨%fs, Hs⟩, ⟨%fc, Hc⟩, Hbufs⟩, ⟨HA, HB, HC, Hsems⟩, HO⟩
  ihave Hmw := (show levAts (K (F := F)).L (K (F := F)).lev ⊢ Transfers.MayWaits (thr d L) (default : HIx 1) O from
    (K (F := F)).mayWaits_none (thr := thr d L) hO) $$ Hlv
  ihave Ht' := (Entails.of_eq (pts_tV (F := F) d L _ _).symm) $$ Ht
  ihave Hi' := (Entails.of_eq (pts_iV (F := F) d L _ _).symm) $$ Hi
  ihave HT' := (Entails.of_eq (pts_sT (F := F) d L _).symm) $$ HT
  ihave Hs' := (Entails.of_eq (pts_sI (F := F) d L _).symm) $$ Hs
  ihave Hc' := (Entails.of_eq (pts_sO (F := F) d L _).symm) $$ Hc
  sl_exec
  sl_for (inv1 (F := F) d L tab idx fo q O W) $$ [Hmw HT' Hi' Hs' Hc' Ho HB HC HO]
  case region =>
    intro k u
    exact trip1 d L tab idx fo hidx q O W k u
  · unfold inv1
    isplitl [Hmw]; · iexact Hmw
    isplitl [HT']
    · iapply (Entails.of_eq (congrArg (fun f => ((sT).view.loc (thr d L) ↦{fullShare} f : sProp 𝕄)) (table_landed d L tab ft))); iexact HT'
    isplitl [Hi']; · iexact Hi'
    isplitl [Hs']; · iexists _; iexact Hs'
    isplitl [Hc']; · iexists _; iexact Hc'
    isplitl [Ho]; · rw [chunks_zero]; iexact Ho
    isplitl [HB]; · iexact HB
    isplitl [HC]; · iexact HC
    iexists _; isplitr
    swap; · iexact HO
    ipureintro; intro p hp
    rcases Finset.mem_insert.mp hp with hp | hp; · exact .inr (hp ▸ rfl)
    exact .inl hp
  iintro %_ HI
  unfold inv1
  icases HI with ⟨-, HT, Hi, ⟨%fs', Hs⟩, ⟨%fc', Hc⟩, Ho, HB, HC, %W', %hW', HO⟩
  sl_exec
  sl_step
  isplitl [Ht' Hi Ho]
  · isplitl [Ht']; · iexact Ht'
    isplitl [Hi]; · iexact Hi
    iapply (Entails.of_eq (chunks_all d L tab idx fo)); iexact Ho
  isplitl [HT Hs Hc Hbufs]
  · isplitl [HT]; · iexists _; iexact HT
    isplitl [Hs]; · iexists _; iexact Hs
    isplitl [Hc]; · iexists _; iexact Hc
    iexact Hbufs
  isplitl [HA HB HC Hsems]
  · isplitl [HA]; · iexact HA
    isplitl [HB]; · iexact HB
    isplitl [HC]; · iexact HC
    iexact Hsems
  iexists W'; isplitr
  · ipureintro; exact hW'
  · iexact HO

end Cert.Proof.KernelIdeal

end
-- ==== Proof.IdealLaunch.lean ====
/-
  The program `KernelIdeal`, run whole: the host flattens the indices, one call runs the tasks on two SparseCores of sixteen
  tiles each, the host folds the flat result back. `run_main` says what the final memory holds — the two arguments as they were
  and the result, at every position, the table's word at the index of that position — and that every semaphore is back at zero.

  How the arrays are dealt: the table and the indices are read by every task, so each SparseCore gets half of the full share of
  them and each tile a sixteenth of that; the result is cut into chunks of 4096 words, 25 for each of the 32 tasks
  (`result_eq_chunks`), each owned outright by the task that writes it.
-/
module

public import proofs.«01_k».proof.Proof.IdealBody
public import Idealize.ShloMosaic.Lib.Pipeline.Value

@[expose] public section

noncomputable section

namespace Cert.Proof.KernelIdeal

open Cert.KernelIdeal Cert.KernelIdeal.Gen
open Cert.Proof.Lookup

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.StableHlo (held wp_hlo_within)
open Idealize.ShloMosaic.Tactic

variable {F : FTy → Type}
variable (m : (ℓ : Loc nD τ sig) → Buf (Elt F) ℓ) (ρ : Dev nD → PrngReg)

local notation "𝕄" => MT nD τ sig (HIx 1) (Elt F) ℕ UU ℕ

/-! ## The values along the way -/

/-- The flattened indices, as the host's first reshape leaves them. -/
def flatIdx (d : Dev nD) : Buf (Elt F) (iLoc d) := fun i => shapeCast S3276800 (m (aLoc d)) shapeCasts_S16384x200_S3276800 i

/-- The flat result, as the tasks leave it. -/
def flatOut (d : Dev nD) : Buf (Elt F) (oLoc d) := G d (m (tLoc d)) (flatIdx m d)

/-- The result, as the host's second reshape leaves it. -/
def result (d : Dev nD) : Buf (Elt F) (rLoc d) := fun i => shapeCast S16384x200 (flatOut m d) shapeCasts_S3276800_S16384x200 i

/-- What the proof asks of the launch memory: every index is below 120000. -/
def PreOK : Prop := ∀ (d : Dev nD) (i : S16384x200.Idx), (m (aLoc d) i).toNat < 120000

/-- The flattened indices are the indices, so they are below 120000 too. -/
theorem flatIdx_lt (hpre : PreOK m) (d : Dev nD) (j : S3276800.Idx) : (flatIdx m d j).toNat < 120000 := hpre d _

/-! ## How the arrays are dealt -/

/-- The task of tile `s` of SparseCore `c`, as grid coordinates. -/
def coordsV (c : Fin (grid0.bound 0)) (s : Fin (grid0.bound 1)) : grid0.Coords :=
  fun | 0 => c | 1 => s | ⟨_ + 2, h⟩ => absurd h (Nat.not_lt.2 (Nat.le_add_left _ _))

/-- The first coordinate of a task is its SparseCore. -/
theorem coordsV_zero (c : Fin (grid0.bound 0)) (s : Fin (grid0.bound 1)) : (coordsV c s 0).val = c.val := rfl

/-- The second coordinate of a task is its tile. -/
theorem coordsV_one (c : Fin (grid0.bound 0)) (s : Fin (grid0.bound 1)) : (coordsV c s 1).val = s.val := rfl

/-- SparseCore `c`'s share of the table and of the indices, and tile `s`'s part of it. -/
abbrev qCore (c : Fin (2 ^ 1)) : PosShare TreeShare := leaf 1 fullShare c
abbrev qTile (c : Fin (2 ^ 1)) (s : Fin (2 ^ 4)) : PosShare TreeShare := leaf 4 (qCore c) s

/-- What the task of tile `s` of SparseCore `c` holds, its chunks at the contents `f`. -/
def tileShare (d : Dev nD) (c : Fin (2 ^ 1)) (s : Fin (2 ^ 4)) (f : Buf (Elt F) (oLoc d)) : sProp 𝕄 :=
  share d (coordsV c s) (qTile c s) (m (tLoc d)) (flatIdx m d) f

/-- What SparseCore `c` holds: its share of the table and of the indices, and its tiles' chunks at the contents `f`. -/
def coreShare (d : Dev nD) (c : Fin (2 ^ 1)) (f : Buf (Elt F) (oLoc d)) : sProp 𝕄 :=
  iprop((tLoc d ↦{qCore c} m (tLoc d)) ∗ (iLoc d ↦{qCore c} flatIdx m d)
    ∗ bigSep Finset.univ fun s : Fin (2 ^ 4) => bigSep Finset.univ fun k : Fin k0_t1_loop.trips => oLoc d ↦[chunk (coordsV c s) k]{fullShare} f)

/-- A SparseCore's holding is its sixteen tiles'. -/
theorem coreShare_eq (d : Dev nD) (c : Fin (2 ^ 1)) (f : Buf (Elt F) (oLoc d)) :
    coreShare m d c f = bigSep Finset.univ fun s : Fin (2 ^ 4) => tileShare m d c s f := by
  unfold coreShare tileShare share
  rw [bigSep_sep', bigSep_sep', ← pointsTo_leaves Finset.univ (m (tLoc d)) 4 (qCore c), ← pointsTo_leaves Finset.univ (flatIdx m d) 4 (qCore c)]

/-- The chunk a triple (SparseCore, tile, trip) names. -/
abbrev chunkOf (x : Fin (2 ^ 1) × Fin (2 ^ 4) × Fin k0_t1_loop.trips) : Finset S3276800.Idx := chunk (coordsV x.1 x.2.1) x.2.2

/-- Which positions of the flat result a task's trip writes. -/
theorem mem_chunkOf {x : Fin (2 ^ 1) × Fin (2 ^ 4) × Fin k0_t1_loop.trips} {j : S3276800.Idx} :
    j ∈ chunkOf x ↔ (j 0).val / 4096 = 50 * x.2.1.val + 25 * x.1.val + x.2.2.val := mem_chunk

/-- Two different tasks, or two different trips of one, have no position in common. -/
theorem chunks_disjoint : ∀ x ∈ (Finset.univ : Finset (Fin (2 ^ 1) × Fin (2 ^ 4) × Fin k0_t1_loop.trips)), ∀ y ∈ (Finset.univ : Finset (Fin (2 ^ 1) × Fin (2 ^ 4) × Fin k0_t1_loop.trips)),
    x ≠ y → Disjoint (chunkOf x) (chunkOf y) := by
  rintro ⟨c, s, k⟩ - ⟨c', s', k'⟩ - hne
  refine Finset.disjoint_left.mpr fun j h h' => hne ?_
  rw [mem_chunkOf] at h h'
  dsimp only at h h'
  have hk : k.val < 25 := trips1 ▸ k.isLt
  have hk' : k'.val < 25 := trips1 ▸ k'.isLt
  have hc : c.val < 2 := c.isLt
  have hc' : c'.val < 2 := c'.isLt
  have e1 : s.val = s'.val := by omega
  have e2 : c.val = c'.val := by omega
  have e3 : k.val = k'.val := by omega
  rw [Fin.ext e1, Fin.ext e2, Fin.ext e3]

/-- Every position of the result is in some task's chunk. -/
theorem chunks_cover : (Finset.univ : Finset (Fin (2 ^ 1) × Fin (2 ^ 4) × Fin k0_t1_loop.trips)).biUnion chunkOf = Finset.univ := by
  refine Finset.eq_univ_of_forall fun j => ?_
  rw [Finset.mem_biUnion]
  have hj : (j 0).val < 3276800 := (j 0).isLt
  refine ⟨(⟨(j 0).val / 4096 % 50 / 25, by show _ < 2; omega⟩, ⟨(j 0).val / 4096 / 50, by show _ < 16; omega⟩,
    ⟨(j 0).val / 4096 % 25, by rw [trips1]; omega⟩), Finset.mem_univ _, ?_⟩
  rw [mem_chunkOf]
  dsimp only
  omega

/-- The result whole is the chunks of all tasks. -/
theorem result_eq_chunks (d : Dev nD) (f : Buf (Elt F) (oLoc d)) :
    (oLoc d ↦{fullShare} f : sProp 𝕄)
      = bigSep Finset.univ fun c : Fin (2 ^ 1) => bigSep Finset.univ fun s : Fin (2 ^ 4) => bigSep Finset.univ fun k : Fin k0_t1_loop.trips =>
          oLoc d ↦[chunk (coordsV c s) k]{fullShare} f := by
  have h := pointsTo_biUnion (Ix := HIx 1) (Val := Elt F) (Name := ℕ) (U := UU) (Lvl := ℕ) (q := fullShare) (f := f) Finset.univ (ℓ := oLoc d) chunkOf chunks_disjoint
  rw [chunks_cover] at h
  rw [h, ← Finset.univ_product_univ, SparseCore.bigSep_product]
  refine bigSep_congr fun c _ => ?_
  rw [← Finset.univ_product_univ, SparseCore.bigSep_product]

/-- The three arrays whole are the two SparseCores' holdings. -/
theorem whole_eq (d : Dev nD) (f : Buf (Elt F) (oLoc d)) :
    (iprop((tLoc d ↦{fullShare} m (tLoc d)) ∗ (iLoc d ↦{fullShare} flatIdx m d) ∗ (oLoc d ↦{fullShare} f)) : sProp 𝕄)
      = bigSep Finset.univ fun c : Fin (2 ^ 1) => coreShare m d c f := by
  unfold coreShare
  rw [bigSep_sep', bigSep_sep', ← pointsTo_leaves Finset.univ (m (tLoc d)) 1 fullShare, ← pointsTo_leaves Finset.univ (flatIdx m d) 1 fullShare,
    result_eq_chunks]

variable [FloatOps F]

/-! ## What the handshakes carry -/

omit [FloatOps F] in
/-- The call runs on two SparseCores. -/
theorem nCore_zero : (K (F := F)).nCore 0 = 2 ^ 1 := rfl

omit [FloatOps F] in
/-- The call runs on sixteen tiles of each. -/
theorem nSub_zero : (K (F := F)).nSub 0 = 2 ^ 4 := rfl

/-- The call's payloads: to and from each SparseCore its holding, to and from each tile its own, the result's chunks at what
    they were on the way in and at the table's words on the way out. -/
def P : (K (F := F)).Pay (nD := nD) (Val := Elt F) (Name := ℕ) (U := UU) where
  st := fun q d c => match q with | 0 => coreShare m d (Fin.cast nCore_zero c) (m (oLoc d))
  dn := fun q d c => match q with | 0 => coreShare m d (Fin.cast nCore_zero c) (flatOut m d)
  go := fun q d c i => match q with | 0 => tileShare m d (Fin.cast nCore_zero c) (Fin.cast nSub_zero i) (m (oLoc d))
  td := fun q d c i => match q with | 0 => tileShare m d (Fin.cast nCore_zero c) (Fin.cast nSub_zero i) (flatOut m d)
  x := fun _ _ => iprop(emp)

/-- A SparseCore's part can be handed over by a semaphore. -/
instance coreShare_storable (d : Dev nD) (c : Fin (2 ^ 1)) (f : Buf (Elt F) (oLoc d)) : BI.Storable (upEmb : UEmb _ 𝕄) (coreShare m d c f) := by
  unfold coreShare; infer_instance

/-- A tile's part can be handed over by a semaphore. -/
instance tileShare_storable (d : Dev nD) (c : Fin (2 ^ 1)) (s : Fin (2 ^ 4)) (f : Buf (Elt F) (oLoc d)) : BI.Storable (upEmb : UEmb _ 𝕄) (tileShare m d c s f) := by
  unfold tileShare; infer_instance

/-- All that the launch hands over can be handed over by a semaphore. -/
instance P_storable : (P (F := F) m).IsStorable where
  st q d c := match q with | 0 => coreShare_storable m d (Fin.cast nCore_zero c) (m (oLoc d))
  dn q d c := match q with | 0 => coreShare_storable m d (Fin.cast nCore_zero c) (flatOut m d)
  go q d c i := match q with | 0 => tileShare_storable m d (Fin.cast nCore_zero c) (Fin.cast nSub_zero i) (m (oLoc d))
  td q d c i := match q with | 0 => tileShare_storable m d (Fin.cast nCore_zero c) (Fin.cast nSub_zero i) (flatOut m d)

/-! ## The launch theorem's obligations -/

/-- What a tile runs is the kernel's body. -/
theorem defs₀_vector (c : Fin τ.nSC) (s : Fin τ.nSub) :
    defs₀ (F := F) (.scVector c s) 0 ()
      = SparseCore.onTile hcore0 hsub0 (fun c s => cc0__sc_gather (coordsV c s)
          iV (Memref.isWhole_whole _) tV (Memref.isWhole_whole _) oV (Memref.isWhole_whole _)
          sT (Memref.isWhole_whole _) sI (Memref.isWhole_whole _) sO (Memref.isWhole_whole _) cc0_scoped0 cc0_scoped1 cc0_scoped2) ⟨⟩ c s := rfl

omit [FloatOps F] in
/-- A task's post as the launch theorem asks it: it also allows waits on the call's own semaphores, of which there are none. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in

/-- Every task runs from its holding to its holding with the chunks filled. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (m (tLoc d)) (flatIdx m d) (m (oLoc d)) (flatIdx_lt m hpre d)
    (qTile (Fin.cast nCore_zero c) (Fin.cast nSub_zero i)) O W hO).trans (wp_mono frame _ _ fun _ => obl_post)

omit [FloatOps F] in
/-- A separating conjunction over the call's tiles is one over sixteen. -/
theorem bigSep_tiles (Φ : Fin (2 ^ 4) → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- A separating conjunction over the call's SparseCores is one over two. -/
theorem bigSep_cores (Φ : Fin (2 ^ 1) → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore deals its holding to its tiles and collects it from them. -/
theorem vecSplit : (K (F := F)).VecSplit' (P m) 0 := by
  intro d c
  show coreShare m d (Fin.cast nCore_zero c) (m (oLoc d)) ⊢ |={Set.univ}=> iprop(
      (bigSep Finset.univ fun i : Fin ((K (F := F)).nSub 0) => tileShare m d (Fin.cast nCore_zero c) (Fin.cast nSub_zero i) (m (oLoc d)))
      ∗ ((bigSep Finset.univ fun i : Fin ((K (F := F)).nSub 0) => tileShare m d (Fin.cast nCore_zero c) (Fin.cast nSub_zero i) (flatOut m d))
          -∗ coreShare m d (Fin.cast nCore_zero c) (flatOut m d)))
  rw [bigSep_tiles (F := F) (fun i => tileShare m d (Fin.cast nCore_zero c) i (m (oLoc d))),
    bigSep_tiles (F := F) (fun i => tileShare m d (Fin.cast nCore_zero c) i (flatOut m d)), coreShare_eq, coreShare_eq]
  iintro H; imodintro
  isplitl [H]; · iexact H
  iintro H; iexact H

/-! ## The launch element: the handshakes' rounds, nothing of the kernel's own -/

/-- The ghost state the launch's handshakes start from. -/
def u₀ : UU := (initOf (K (F := F)).hsCells (K (F := F)).hsToks, 1)

omit [FloatOps F] in
/-- Nothing, any number of times, is nothing. -/
theorem bigSep_emp' {I : Type} (s : Finset I) : (bigSep s fun _ => iprop(emp)) = (iprop(emp) : sProp 𝕄) := bigSep_emp_const s

/-- The ghost state `u₀` gives the launch what it starts from. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The host's program -/

abbrev a' : DevRef τ sig := Proc.devRef .tc (main_arg0 : Ref sig .tc)
abbrev t' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The two reshapes. -/
abbrev opIn : HloOp τ sig (Elt F) := StableHlo.reshape main_arg0 main_v0 (rfl : (.i32 : EltTy) = .i32) shapeCasts_S16384x200_S3276800
abbrev opOut : HloOp τ sig (Elt F) := StableHlo.reshape main_v1 main_v2 (rfl : (.i32 : EltTy) = .i32) shapeCasts_S3276800_S16384x200

/-- The host's arrays: the two arguments, the flattened indices, the flat result, the result. -/
abbrev S5 : Finset (DevRef τ sig) := {a', t', i', o', r'}

omit [FloatOps F] in
/-- What the host holds of its five buffers, buffer by buffer. -/
theorem held_S5 (d : Dev nD) (W : Valuation τ sig (Elt F)) :
    (held (T d) S5 W : sProp 𝕄) = iprop((aLoc d ↦{fullShare} W a') ∗ (tLoc d ↦{fullShare} W t') ∗ (iLoc d ↦{fullShare} W i') ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
/-- The device's memory outside every kernel is those five buffers. -/
theorem unscopedBufs_eq (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_arg1) ∗ (iLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The arrays at the launch; after the first reshape; after the call. -/
def V0 (d : Dev nD) : Valuation τ sig (Elt F) := fun b => m (d, b)

/-- The host's buffers after the first reshape. -/
def V1 (d : Dev nD) : Valuation τ sig (Elt F) := (opIn (F := F)).result (V0 m d)

/-- The host's buffers after the call. -/
def V2 (d : Dev nD) : Valuation τ sig (Elt F) := Function.update (V1 m d) o' (flatOut m d)

/-- At the start the host holds the five buffers as memory has them. -/
theorem unscoped_held (d : Dev nD) : (unscopedBufs d (fun b => m ((SparseCore.T d).loc b)) : sProp 𝕄) = held (T d) S5 (V0 m d) := by
  rw [unscopedBufs_eq, held_S5]; rfl

/-- The first reshape writes the flattened indices and nothing else. -/
theorem V1_a (d : Dev nD) : V1 m d a' = m (aLoc d) := (opIn (F := F)).result_of_not_mem _ (show a' ∉ ({i'} : Finset (DevRef τ sig)) by decide)

/-- The first reshape leaves the table alone. -/
theorem V1_t (d : Dev nD) : V1 m d t' = m (tLoc d) := (opIn (F := F)).result_of_not_mem _ (show t' ∉ ({i'} : Finset (DevRef τ sig)) by decide)

/-- The first reshape writes the flat indices. -/
theorem V1_i (d : Dev nD) : V1 m d i' = flatIdx m d := StableHlo.reshape_result _ _ _ _ _ _ _

/-- The first reshape leaves the flat result's buffer alone. -/
theorem V1_o (d : Dev nD) : V1 m d o' = m (oLoc d) := (opIn (F := F)).result_of_not_mem _ (show o' ∉ ({i'} : Finset (DevRef τ sig)) by decide)

/-- The first reshape leaves the result's buffer alone. -/
theorem V1_r (d : Dev nD) : V1 m d r' = m (rLoc d) := (opIn (F := F)).result_of_not_mem _ (show r' ∉ ({i'} : Finset (DevRef τ sig)) by decide)

/-- The call leaves the indices alone. -/
theorem V2_a (d : Dev nD) : V2 m d a' = m (aLoc d) := (Function.update_of_ne (show a' ≠ o' by decide) _ _).trans (V1_a m d)

/-- The call leaves the table alone. -/
theorem V2_t (d : Dev nD) : V2 m d t' = m (tLoc d) := (Function.update_of_ne (show t' ≠ o' by decide) _ _).trans (V1_t m d)

/-- The call leaves the flat indices alone. -/
theorem V2_i (d : Dev nD) : V2 m d i' = flatIdx m d := (Function.update_of_ne (show i' ≠ o' by decide) _ _).trans (V1_i m d)

/-- The call writes the flat result. -/
theorem V2_o (d : Dev nD) : V2 m d o' = flatOut m d := Function.update_self _ _ _

/-- The call leaves the result's buffer alone. -/
theorem V2_r (d : Dev nD) : V2 m d r' = m (rLoc d) := (Function.update_of_ne (show r' ≠ o' by decide) _ _).trans (V1_r m d)

/-- The second reshape writes the result and nothing else. -/
theorem V3_a (d : Dev nD) : (opOut (F := F)).result (V2 m d) a' = m (aLoc d) :=
  ((opOut (F := F)).result_of_not_mem _ (show a' ∉ ({r'} : Finset (DevRef τ sig)) by decide)).trans (V2_a m d)

/-- The last reshape leaves the table alone. -/
theorem V3_t (d : Dev nD) : (opOut (F := F)).result (V2 m d) t' = m (tLoc d) :=
  ((opOut (F := F)).result_of_not_mem _ (show t' ∉ ({r'} : Finset (DevRef τ sig)) by decide)).trans (V2_t m d)

/-- The last reshape writes the result. -/
theorem V3_r (d : Dev nD) : (opOut (F := F)).result (V2 m d) r' = result m d := by
  refine (StableHlo.reshape_result _ _ _ _ _ _ _).trans ?_
  funext i
  show shapeCast S16384x200 (V2 m d o') shapeCasts_S3276800_S16384x200 i = _
  rw [V2_o]; rfl

/-- The first reshape touches two of the five buffers. -/
theorem hIn : (opIn (F := F)).bufs ⊆ S5 := show ({a', i'} : Finset (DevRef τ sig)) ⊆ S5 by decide

/-- The last reshape touches two of the five buffers. -/
theorem hOut : (opOut (F := F)).bufs ⊆ S5 := show ({o', r'} : Finset (DevRef τ sig)) ⊆ S5 by decide

/-- What the call takes and what it hands back: the table, the flattened indices and the flat result, whole. -/
theorem st0_eq (d : Dev nD) : (bigSep Finset.univ fun c : Fin ((K (F := F)).nCore 0) => (P m).st 0 d c)
    = iprop((tLoc d ↦{fullShare} m (tLoc d)) ∗ (iLoc d ↦{fullShare} flatIdx m d) ∗ (oLoc d ↦{fullShare} m (oLoc d))) :=
  (bigSep_cores (F := F) (fun c => coreShare m d c (m (oLoc d)))).trans (whole_eq m d _).symm

/-- What the call gives back, SparseCore by SparseCore. -/
theorem dn0_eq (d : Dev nD) : (bigSep Finset.univ fun c : Fin ((K (F := F)).nCore 0) => (P m).dn 0 d c)
    = iprop((tLoc d ↦{fullShare} m (tLoc d)) ∗ (iLoc d ↦{fullShare} flatIdx m d) ∗ (oLoc d ↦{fullShare} flatOut m d)) :=
  (bigSep_cores (F := F) (fun c => coreShare m d c (flatOut m d))).trans (whole_eq m d _).symm

/-- The host's arrays after the first reshape. -/
theorem held_V1 (d : Dev nD) : (held (T d) S5 ((opIn (F := F)).result (V0 m d)) : sProp 𝕄)
    = iprop((aLoc d ↦{fullShare} m (aLoc d)) ∗ (tLoc d ↦{fullShare} m (tLoc d)) ∗ (iLoc d ↦{fullShare} flatIdx m d)
        ∗ (oLoc d ↦{fullShare} m (oLoc d)) ∗ rLoc d ↦{fullShare} m (rLoc d)) := by
  rw [← V1_a m d, ← V1_t m d, ← V1_i m d, ← V1_o m d, ← V1_r m d]
  exact held_S5 d (V1 m d)

/-- What the host's program leaves the claims: the arguments as they were, the result at its value. -/
abbrev FIN (d : Dev nD) : sProp 𝕄 := iprop((aLoc d ↦{fullShare} m (aLoc d)) ∗ (tLoc d ↦{fullShare} m (tLoc d)) ∗ rLoc d ↦{fullShare} result m d)

/-- The host's program: the first reshape, the call, the second reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S5) hIn (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha, Ht, Hi, Ho, Hr⟩
  iapply ((K (F := F)).wp_run (D (F := F)) 𝒱 (EH := EH) (P := P m) κ d 0) $$ [Hst Ha Ht Hi Ho Hr Hb Hts]
  isplitr; · iexact Hctx
  isplitl [Hst]; · iexact Hst
  isplitl [Ht Hi Ho]
  · rw [st0_eq]
    isplitl [Ht]; · iexact Ht
    isplitl [Hi]; · iexact Hi
    iexact Ho
  iintro ⟨Hst, Hdn⟩
  ihave Hdn' := (Entails.of_eq (dn0_eq m d)) $$ Hdn
  icases Hdn' with ⟨Ht, Hi, Ho⟩
  iapply (wp_hlo_within 𝒱 (SparseCore.T d) none Set.univ (op := opOut) (S := S5) hOut (V := V2 m d)) $$ [Hb Ha Ht Hi Ho Hr]
  · isplitl [Hb]; · iexact Hb
    rw [held_S5, V2_a, V2_t, V2_i, V2_o, V2_r]
    isplitl [Ha]; · iexact Ha
    isplitl [Ht]; · iexact Ht
    isplitl [Hi]; · iexact Hi
    isplitl [Ho]; · iexact Ho
    iexact Hr
  iintro ⟨Hb, Hheld⟩
  ihave Hh := (Entails.of_eq (held_S5 (F := F) d _)) $$ Hheld
  rw [V3_a, V3_t, V3_r]
  icases Hh with ⟨Ha, Ht, -, -, Hr⟩
  rw [wp_ret]; imodintro; imodintro
  isplitl [Hst]; · iexact Hst
  isplitr [Hb Hts]
  · isplitl [Ha]; · iexact Ha
    isplitl [Ht]; · iexact Ht
    iexact Hr
  isplitl [Hb] <;> iassumption

/-- What the claims read of device `d`'s final memory. -/
def fq (d : Dev nD) (s' : Phys nD τ sig (Elt F)) : Prop :=
  s'.mem.mem (rLoc d) = result m d ∧ s'.mem.mem (aLoc d) = m (aLoc d) ∧ s'.mem.mem (tLoc d) = m (tLoc d)

/-- What the host holds at the end says what memory then is. -/
theorem hfin (d : Dev nD) (s' : Phys nD τ sig (Elt F)) : iprop(FIN m d ∗ SI s') ⊢ (⌜fq m d s'⌝ : sProp 𝕄) := by
  iintro ⟨⟨Ha, Ht, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := result m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- The final state: on every device the result at its value and the arguments as they were; every semaphore at zero. -/
def QC : PUnit × MemSt nD τ sig (Elt F) → Prop := fun r =>
  (∀ c : Dev nD, r.2.mem (rLoc c) = result m c ∧ r.2.mem (aLoc c) = m (aLoc c) ∧ r.2.mem (tLoc c) = m (tLoc c)) ∧ r.2.sem = fun _ => 0

/-- The program runs, from any memory whose indices are below 120000, to that final state. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- Flattened and folded back, every position of the result keeps its place: it holds the table's word at its own index. -/
theorem result_apply (d : Dev nD) (i : S16384x200.Idx) : result m d i = look (m (tLoc d)) (m (aLoc d) i) :=
  congrArg (look (m (tLoc d)))
    (congrFun (shapeCast_shapeCast (m (aLoc d)) shapeCasts_S16384x200_S3276800 shapeCasts_S3276800_S16384x200) i)

end Cert.Proof.KernelIdeal

end
-- ==== Proof.Range.lean ====
/-
  The precondition read back. Its one word is the conjunction over all the indices of "at least 0 and below 120000, read
  signed"; where it is 1, every index read unsigned is below 120000.
-/
module

public import proofs.«01_k».proof.Proof.Gen.Pre_idx_in_table
public import Idealize.ShloMosaic.Lib.ReduceAll
public import Idealize.ShloMosaic.Lib.Affine

@[expose] public section

noncomputable section

namespace Cert.Proof.Range

open Idealize.ShloMosaic Cert.Pre_idx_in_table Cert.Pre_idx_in_table.Gen

variable {F : FTy → Type} [FloatOps F]

/-- A word at least 0 and below 120000 read signed is below 120000 read unsigned. -/
theorem toNat_lt {w : BitVec 32} (h₀ : (0#32).toInt ≤ w.toInt) (h₁ : w.toInt < (120000#32).toInt) : w.toNat < 120000 := by
  rw [BitVec.toInt_eq_toNat_cond] at h₀ h₁
  simp only [BitVec.toInt_ofNat, BitVec.toInt_eq_toNat_cond, BitVec.toNat_ofNat, Nat.reducePow, Nat.reduceMod] at h₀ h₁
  split at h₀ <;> simp_all <;> omega

/-- Where the precondition holds, every index is below 120000. -/
theorem lt_of_pre {a : IVec S16384x200 32} {t : IVec S120000 32}
    (h : Cert.Pre_idx_in_table.fn (F := F) a t = fun _ => 1#1) (i : S16384x200.Idx) : (a i).toNat < 120000 := by
  haveI : Subsingleton S_.Idx := ⟨fun x y => funext fun k => k.elim0⟩
  have e := Host.reduce_andi_all _ _ _ _ (Shape.Idx.first Facts.h_S_) (congrFun h _) i
  obtain ⟨e₀, e₁⟩ := IntOp.andi_eq_one.mp e
  exact toNat_lt (IntOp.cmpi_sge.mp e₀) (IntOp.cmpi_slt.mp e₁)

end Cert.Proof.Range

end
-- ==== Proof.Reference.lean ====
/-
  The reference's result, read at an index. It wraps a negative index by the table's length, masks an index outside the
  table, and gathers; where every index is below 120000 none of the three changes anything, and the result at an index is
  what the table holds at the slot named there.
-/
module

public import proofs.«01_k».proof.Proof.Gen.ReferenceIdeal.Run
public import proofs.«01_k».proof.Proof.Lookup
public import Idealize.ShloMosaic.Lib.ReduceAll
public import Idealize.ShloMosaic.Lib.Affine
public import Idealize.ShloMosaic.Lib.ValueIdxCore

@[expose] public section

noncomputable section

namespace Cert.Proof.Reference

open Cert.ReferenceIdeal Cert.ReferenceIdeal.Gen Idealize.ShloMosaic Idealize.ShloMosaic.TcCoe Idealize.SL.Sem Cert.Proof.Lookup

/-- A word below 120000 reads the same signed and unsigned. -/
theorem toInt_eq {w : BitVec 32} (h : w.toNat < 120000) : w.toInt = w.toNat := by
  rw [BitVec.toInt_eq_toNat_cond, if_pos (by omega)]

/-- The index a reference's element is gathered at: the argument's, a negative one moved up by 120000. -/
abbrev wrapped (a : IVec S16384x200 32) : IVec S16384x200 32 :=
  select (cmpi .slt a (broadcastInDim S16384x200 ![] Facts₀.bcast_S_S16384x200 (constantI S_ 32 0#32)))
    (addi a (broadcastInDim S16384x200 ![] Facts₀.bcast_S_S16384x200 (constantI S_ 32 120000#32))) a

/-- The same, as the gather takes them: a third axis of length one. -/
abbrev starts (a : IVec S16384x200 32) : IVec S16384x200x1 32 :=
  broadcastInDim S16384x200x1 ![0, 1] Facts₀.bcast_S16384x200_S16384x200x1_0_1 (wrapped a)

/-- The mask: at each index, whether every start there is at least 0 and at most 119999. -/
abbrev mask (a : IVec S16384x200 32) : IVec S16384x200 1 :=
  Host.reduce IntOp.andi
    (andi (cmpi .sge (starts a) (broadcastInDim S16384x200x1 ![] Facts₀.bcast_S_S16384x200x1 (constantI S_ 32 0#32)))
      (cmpi .sle (starts a) (broadcastInDim S16384x200x1 ![0, 1, 2] Facts₀.bcast_S1x1x1_S16384x200x1_0_1_2
        (broadcastInDim S1x1x1 ![2] Facts₀.bcast_S1_S1x1x1_2 (constantI S1 32 119999#32)))))
    (constantI S_ 1 1#1) Facts₀.reducesTo_S16384x200x1_S16384x200_d2 Facts₀.h_S_

/-- The reference's result as a function of its arguments. -/
abbrev value (t : IVec S120000 32) (a : IVec S16384x200 32) : IVec S16384x200 32 :=
  select (mask a) (Host.gather gather_S120000_S16384x200x1_S16384x200_n_0_n_n_0_2_1 t (starts a))
    (broadcastInDim S16384x200 ![] Facts₀.bcast_S_S16384x200 (constantI S_ 32 2147483648#32))

variable {a : IVec S16384x200 32} (ha : ∀ i, (a i).toNat < 120000)
include ha

/-- No index is negative, so none moves. -/
theorem wrapped_eq : wrapped a = a := by
  funext i
  refine if_neg fun h => ?_
  have h' := IntOp.cmpi_slt.mp h
  rw [toInt_eq (ha i)] at h'
  exact absurd h' (by show ¬ ((a i).toNat : Int) < (0#32).toInt; simp)

/-- Every start is one of the indices. -/
theorem starts_lt (k : S16384x200x1.Idx) : (starts a k).toNat < 120000 := by
  show (wrapped a _).toNat < 120000
  rw [wrapped_eq ha]
  exact ha _

/-- The mask is 1 everywhere. -/
theorem mask_one (i : S16384x200.Idx) : mask a i = 1#1 := by
  refine Host.reduce_andi_one _ _ _ _ _ rfl fun k => IntOp.andi_eq_one.mpr ⟨IntOp.cmpi_sge.mpr ?_, IntOp.cmpi_sle.mpr ?_⟩
  · rw [toInt_eq (starts_lt ha k)]
    show (0#32).toInt ≤ _
    simp
  · rw [toInt_eq (starts_lt ha k)]
    have := starts_lt ha k
    show _ ≤ (119999#32).toInt
    rw [toInt_eq (by decide)]
    have : (119999#32).toNat = 119999 := rfl
    omega

/-- The reference's result at an index is what the table holds at the slot the index there names. -/
theorem value_eq (t : IVec S120000 32) (i : S16384x200.Idx) : value t a i = look t (a i) := by
  have hs : starts a (ValueIdx.takeIdx i) = a i := by
    show wrapped a _ = _
    rw [wrapped_eq ha]
    refine congrArg a (funext fun k => Fin.ext ?_)
    match k with
    | 0 => rfl
    | 1 => rfl
  have hg := ValueIdx.gather_take_apply (N := 120000) (by omega)
    Facts₀.gather_S120000_S16384x200x1_S16384x200_n_0_n_n_0_2_1_wf t (starts a) i
  unfold value select
  rw [mask_one ha i]
  refine Eq.trans ?_ (hg.trans (congrArg t (eq_slot (ha i) fun k => ?_)))
  · rfl
  match k with
  | 0 =>
    show min (starts a (ValueIdx.takeIdx i)).toInt.toNat (120000 - 1) = _
    rw [hs, toInt_eq (ha i)]
    have := ha i
    omega

end Cert.Proof.Reference

end
-- ==== Proof.lean ====
/-
  The proof of `Cert.Claim`: the kernel and its ideal form run to completion leaving their arguments alone and every semaphore at
  zero, so does the reference, the ideal form is the kernel unchanged, and the ideal form and the reference end with one result.

  That result holds, at every position, what the table holds at the slot the index there names (Proof/Lookup.lean).
  - Proof/Range.lean reads the precondition: every index is below 120000.
  - Proof/IdealTile.lean, IdealBody.lean, IdealLaunch.lean run the ideal form: one task's loops, one task whole, the program.
  - Proof/KernelTile.lean, KernelBody.lean, KernelLaunch.lean say the same of the kernel.
  - Proof/Reference.lean reads the reference's result at an index.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_idx_in_table
public import proofs.«01_k».proof.Proof.KernelLaunch
public import proofs.«01_k».proof.Proof.Range
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The precondition gives the kernel's indices their range. -/
theorem pre_kernel {m} (h : Cert.Pre_Kernel m) : Cert.Proof.Kernel.PreOK (F := Bits) m :=
  fun d i => Range.lt_of_pre (F := Bits) (h d) i

/-- The precondition gives the ideal form's indices their range. -/
theorem pre_ideal {m} (h : Cert.Pre_KernelIdeal m) : Cert.Proof.KernelIdeal.PreOK (F := Ideal) m :=
  fun d i => Range.lt_of_pre (F := Ideal) (h d) i

/-- The kernel runs to completion, its arguments unchanged and its semaphores at zero. -/
theorem frame_kernel : Cert.quiescent_Kernel := fun m g h =>
  (θ_run Cert.Kernel.defs _ _).mono (fun _ q => ⟨fun c => (q.1 c).2, q.2⟩) (Cert.Proof.Kernel.run_main (F := Bits) m g (pre_kernel h))

/-- The ideal form runs to completion, its arguments unchanged and its semaphores at zero. -/
theorem frame_ideal : Cert.quiescent_KernelIdeal := fun m g h =>
  (θ_run Cert.KernelIdeal.defs _ _).mono (fun _ q => ⟨fun c => (q.1 c).2, q.2⟩)
    (Cert.Proof.KernelIdeal.run_main (F := Ideal) m g (pre_ideal h))

/-- The reference runs to completion, its arguments unchanged; it has no semaphore. -/
theorem frame_reference : Cert.quiescent_ReferenceIdeal := fun m g _ =>
  (θ_run Cert.ReferenceIdeal.defs _ _).mono (fun r q => ⟨fun c => (q c).2, sem_eq_zero_of_no_sems (by decide) r.2⟩)
    (Cert.ReferenceIdeal.Value.run (F := Ideal) m g)

/-- From the same arguments, in range, the ideal form and the reference end with the same result. -/
theorem agree : Cert.algebraic_KernelIdeal_ReferenceIdeal := by
  intro m g m' g' h hargs
  have hp := pre_ideal h
  refine ⟨fun c => Cert.Proof.KernelIdeal.result m c,
    (θ_run Cert.KernelIdeal.defs _ _).mono (fun _ q => q.1) (Cert.Proof.KernelIdeal.run_main (F := Ideal) m g hp),
    (θ_run Cert.ReferenceIdeal.defs _ _).mono (fun _ q c => ⟨(q c).1.trans ?_, (q c).2⟩)
      (Cert.ReferenceIdeal.Value.run (F := Ideal) m' g')⟩
  obtain ⟨e₀, e₁⟩ := hargs c
  rw [e₀, e₁]
  funext i
  exact (Reference.value_eq (hp c) _ i).trans (Cert.Proof.KernelIdeal.result_apply m c i).symm

/-- Everything claimed. -/
theorem claim : Cert.Claim :=
  ⟨Cert.Kernel.Gen.facts, Cert.KernelIdeal.Gen.facts, Cert.ReferenceIdeal.Gen.facts, Cert.Pre_idx_in_table.Gen.facts,
    frame_kernel, frame_ideal, frame_reference, trivial, agree⟩

end Cert.Proof

end
